-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_graph [hPre_finite_graph : Cert.Pre_finite_graph.Facts] (m : (ℓ : Loc Cert.KernelIdeal.nD Cert.KernelIdeal.τ Cert.KernelIdeal.sig) → Buf (Elt Ideal) ℓ) : Prop :=
  ∀ c : Dev Cert.KernelIdeal.nD,
    (Cert.Pre_finite_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_graph [hPre_finite_graph : Cert.Pre_finite_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_graph [hKernelIdeal : Cert.KernelIdeal.Facts] [hPre_finite_graph : Cert.Pre_finite_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_graph [hReferenceIdeal : Cert.ReferenceIdeal.Facts] [hPre_finite_graph : Cert.Pre_finite_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_graph [hKernelIdeal : Cert.KernelIdeal.Facts] [hReferenceIdeal : Cert.ReferenceIdeal.Facts] [hPre_finite_graph : Cert.Pre_finite_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_graph : Cert.Pre_finite_graph.Facts),
    quiescent_Kernel (hKernel := hKernel)
    ∧ quiescent_KernelIdeal (hKernelIdeal := hKernelIdeal)
    ∧ quiescent_KernelIdeal_pre_finite_graph (hKernelIdeal := hKernelIdeal) (hPre_finite_graph := hPre_finite_graph)
    ∧ quiescent_ReferenceIdeal (hReferenceIdeal := hReferenceIdeal)
    ∧ quiescent_ReferenceIdeal_pre_finite_graph (hReferenceIdeal := hReferenceIdeal) (hPre_finite_graph := hPre_finite_graph)
    ∧ preserves_Kernel_KernelIdeal
    ∧ algebraic_KernelIdeal_ReferenceIdeal_pre_finite_graph (hKernelIdeal := hKernelIdeal) (hReferenceIdeal := hReferenceIdeal) (hPre_finite_graph := hPre_finite_graph)
-- ==== Pre_finite_graph.lean ====
abbrev S10000x128 : Shape := ⟨2, ![10000, 128]⟩
abbrev S10000x10000 : Shape := ⟨2, ![10000, 10000]⟩
abbrev S128x128 : Shape := ⟨2, ![128, 128]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_

variable [Facts]

def fn {F : FTy → Type} [FloatOps F] (main_arg0 : FVec F S10000x128 .f32) (main_arg1 : FVec F S10000x10000 .f32) (main_arg2 : FVec F S128x128 .f32) (main_arg3 : FVec F S128x128 .f32) (main_arg4 : FVec F S128x128 .f32) (main_arg5 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  main_v8
-- ==== Kernel.lean ====
abbrev S10000x128 : Shape := ⟨2, ![10000, 128]⟩
abbrev S10000x10000 : Shape := ⟨2, ![10000, 10000]⟩
abbrev S128x128 : Shape := ⟨2, ![128, 128]⟩
abbrev S1 : Shape := ⟨1, ![1]⟩
abbrev S8x128 : Shape := ⟨2, ![8, 128]⟩
abbrev S400x10000 : Shape := ⟨2, ![400, 10000]⟩
abbrev S400x128 : Shape := ⟨2, ![400, 128]⟩
abbrev S128 : Shape := ⟨1, ![128]⟩
abbrev S1x128 : Shape := ⟨2, ![1, 128]⟩
abbrev S1x1 : Shape := ⟨2, ![1, 1]⟩
abbrev S1000x10000 : Shape := ⟨2, ![1000, 10000]⟩
abbrev S1000x128 : Shape := ⟨2, ![1000, 128]⟩

abbrev nBuf : Space → Nat
  | .hbm => 12
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S1, .f32⟩
  | .hbm, ⟨6, _⟩ => ⟨S10000x128, .f32⟩
  | .hbm, ⟨7, _⟩ => ⟨S10000x128, .fp8e4m3⟩
  | .hbm, ⟨8, _⟩ => ⟨S10000x10000, .fp8e4m3⟩
  | .hbm, ⟨9, _⟩ => ⟨S8x128, .f32⟩
  | .hbm, ⟨10, _⟩ => ⟨S1x1, .f32⟩
  | .hbm, ⟨11, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S128x128, .f32⟩
  | .local _ .vmem, ⟨5, _⟩ => ⟨S400x128, .f32⟩
  | .local _ .vmem, ⟨6, _⟩ => ⟨S400x128, .f32⟩
  | .local _ .vmem, ⟨7, _⟩ => ⟨S400x128, .fp8e4m3⟩
  | .local _ .vmem, ⟨8, _⟩ => ⟨S400x128, .fp8e4m3⟩
  | .local _ .vmem, ⟨9, _⟩ => ⟨S400x10000, .fp8e4m3⟩
  | .local _ .vmem, ⟨10, _⟩ => ⟨S400x10000, .fp8e4m3⟩
  | .local _ .vmem, ⟨11, _⟩ => ⟨S8x128, .f32⟩
  | .local _ .vmem, ⟨12, _⟩ => ⟨S1000x10000, .fp8e4m3⟩
  | .local _ .vmem, ⟨13, _⟩ => ⟨S1000x10000, .fp8e4m3⟩
  | .local _ .vmem, ⟨14, _⟩ => ⟨S10000x128, .fp8e4m3⟩
  | .local _ .vmem, ⟨15, _⟩ => ⟨S1000x128, .f32⟩
  | .local _ .vmem, ⟨16, _⟩ => ⟨S1000x128, .f32⟩
  | .local _ .vmem, ⟨17, _⟩ => ⟨S8x128, .f32⟩
  | .local _ .vmem, ⟨18, _⟩ => ⟨S128x128, .f32⟩
  | .local _ .vmem, ⟨19, _⟩ => ⟨S1x1, .f32⟩
  | .local _ .vmem, ⟨20, _⟩ => ⟨S1000x128, .f32⟩
  | .local _ .vmem, ⟨21, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v3 : BitVec 32 := Scalar.muli arg0 c400_i32
  let v4 : Index := Scalar.indexCast v3
  let c0_3 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x10000 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S1 : Shape := ⟨1, ![1]⟩
abbrev S_ : Shape := ⟨0, ![]⟩
abbrev S1x1 : Shape := ⟨2, ![1, 1]⟩

abbrev nBuf : Space → Nat
  | .hbm => 20
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S1, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .i1⟩
  | .hbm, ⟨16, _⟩ => ⟨S1x1, .f32⟩
  | .hbm, ⟨17, _⟩ => ⟨S10000x128, .f32⟩
  | .hbm, ⟨18, _⟩ => ⟨S10000x128, .f32⟩
  | .hbm, ⟨19, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Proof.HopOneBlock.lean ====
/-
  The first pallas call, one grid point at a time: what its body leaves in the staging buffer of each of its four results,
  as the payload of the one store that covers that buffer. At the first point the correction buffer is zeroed first; at
  every later point it is added to.
-/
module

public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.HopOne

open Cert.KernelIdeal Cert.KernelIdeal.Gen

variable {F : FTy → Type} [FloatOps F]

/-- The offsets of a whole rank-2 block are zero. -/
theorem offs_zero : (![0, 0] : Fin 2 → Nat) = fun _ => 0 := funext fun a => by fin_cases a <;> rfl

/-- The 400 rows of the features that point `i` multiplies by the first weight matrix. -/
abbrev xRows (i : grid0.Coords) (x1 : Vec F S10000x128 .f32) : Vec F S400x128 .f32 :=
  View.ld x1 (Rect.unit (s := S10000x128) (k0_off1 i) S400x128.size (k0_off1_inb i))

/-- At the first point result 0 is left at the partial sum of the first two terms. -/
theorem out_A_4 (c : Dev nD) (i : grid0.Coords) (arg1 : Memref sig .tc .vmem S400x10000 .f32) (harg1 : arg1.IsWhole)
    (arg2 : Memref sig .tc .vmem S10000x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S400x128 .f32) (harg5 : arg5.IsWhole)
    (arg6 : Memref sig .tc .vmem S400x128 .fp8e4m3) (harg6 : arg6.IsWhole) (arg7 : Memref sig .tc .vmem S400x10000 .fp8e4m3) (harg7 : arg7.IsWhole)
    (arg8 : Memref sig .tc .vmem S8x128 .f32) (harg8 : arg8.IsWhole) (hc : cond0_0 i)
    (x0 : Vec F S400x10000 .f32) (x1 : Vec F S10000x128 .f32) (x2 : Vec F S128x128 .f32) (x3 : Vec F S128x128 .f32) :
    out0_A_4 c i arg1 harg1 arg2 harg2 arg3 harg3 arg4 harg4 arg5 harg5 arg6 harg6 arg7 harg7 arg8 harg8 hc x0 x1 x2 x3 = k0_pay2 x0 x1 (xRows i x1) x2 x3 := by
  unfold out0_A_4
  rw [View.read_writes_eq_canon _ _ _ (cover0_A_4 c i arg1 harg1 arg2 harg2 arg3 harg3 arg4 harg4 arg5 harg5 arg6 harg6 arg7 harg7 arg8 harg8 hc x0 x1 x2 x3)]
  unfold kernelRun0_A
  dsimp only
  rw [View.canon_unit_zero (S := S400x128) offs_zero]
  simp only [View.readAt_eq_ld, harg1.read_unread, harg2.read_unread, harg3.read_unread, harg4.read_unread, harg8.read_unread,
    View.ld_unit_zero (S := S400x10000) offs_zero, View.ld_unit_zero (S := S10000x128) offs_zero,
    View.ld_unit_zero (S := S128x128) offs_zero, View.ld_unit_zero (S := S8x128) offs_zero]

/-- At the first point result 1 is left at the narrowed block of the first product. -/
theorem out_A_5 (c : Dev nD) (i : grid0.Coords) (arg1 : Memref sig .tc .vmem S400x10000 .f32) (harg1 : arg1.IsWhole)
    (arg2 : Memref sig .tc .vmem S10000x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S400x128 .f32) (harg5 : arg5.IsWhole)
    (arg6 : Memref sig .tc .vmem S400x128 .fp8e4m3) (harg6 : arg6.IsWhole) (arg7 : Memref sig .tc .vmem S400x10000 .fp8e4m3) (harg7 : arg7.IsWhole)
    (arg8 : Memref sig .tc .vmem S8x128 .f32) (harg8 : arg8.IsWhole) (hc : cond0_0 i)
    (x0 : Vec F S400x10000 .f32) (x1 : Vec F S10000x128 .f32) (x2 : Vec F S128x128 .f32) (x3 : Vec F S128x128 .f32) :
    out0_A_5 c i arg1 harg1 arg2 harg2 arg3 harg3 arg4 harg4 arg5 harg5 arg6 harg6 arg7 harg7 arg8 harg8 hc x0 x1 x2 x3 = k0_pay3 x0 x1 := by
  unfold out0_A_5
  rw [View.read_writes_eq_canon _ _ _ (cover0_A_5 c i arg1 harg1 arg2 harg2 arg3 harg3 arg4 harg4 arg5 harg5 arg6 harg6 arg7 harg7 arg8 harg8 hc x0 x1 x2 x3)]
  unfold kernelRun0_A
  dsimp only
  rw [View.canon_unit_zero (S := S400x128) offs_zero]
  simp only [View.readAt_eq_ld, harg1.read_unread, harg2.read_unread, harg3.read_unread, harg4.read_unread, harg8.read_unread,
    View.ld_unit_zero (S := S400x10000) offs_zero, View.ld_unit_zero (S := S10000x128) offs_zero,
    View.ld_unit_zero (S := S128x128) offs_zero, View.ld_unit_zero (S := S8x128) offs_zero]

/-- At the first point result 2 is left at the narrowed block of the graph shift operator. -/
theorem out_A_6 (c : Dev nD) (i : grid0.Coords) (arg1 : Memref sig .tc .vmem S400x10000 .f32) (harg1 : arg1.IsWhole)
    (arg2 : Memref sig .tc .vmem S10000x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S400x128 .f32) (harg5 : arg5.IsWhole)
    (arg6 : Memref sig .tc .vmem S400x128 .fp8e4m3) (harg6 : arg6.IsWhole) (arg7 : Memref sig .tc .vmem S400x10000 .fp8e4m3) (harg7 : arg7.IsWhole)
    (arg8 : Memref sig .tc .vmem S8x128 .f32) (harg8 : arg8.IsWhole) (hc : cond0_0 i)
    (x0 : Vec F S400x10000 .f32) (x1 : Vec F S10000x128 .f32) (x2 : Vec F S128x128 .f32) (x3 : Vec F S128x128 .f32) :
    out0_A_6 c i arg1 harg1 arg2 harg2 arg3 harg3 arg4 harg4 arg5 harg5 arg6 harg6 arg7 harg7 arg8 harg8 hc x0 x1 x2 x3 = k0_pay4 x0 := by
  unfold out0_A_6
  rw [View.read_writes_eq_canon _ _ _ (cover0_A_6 c i arg1 harg1 arg2 harg2 arg3 harg3 arg4 harg4 arg5 harg5 arg6 harg6 arg7 harg7 arg8 harg8 hc x0 x1 x2 x3)]
  unfold kernelRun0_A
  dsimp only
  rw [View.canon_unit_zero (S := S400x10000) offs_zero]
  simp only [View.readAt_eq_ld, harg1.read_unread, harg2.read_unread, harg3.read_unread, harg4.read_unread, harg8.read_unread,
    View.ld_unit_zero (S := S400x10000) offs_zero, View.ld_unit_zero (S := S10000x128) offs_zero,
    View.ld_unit_zero (S := S128x128) offs_zero, View.ld_unit_zero (S := S8x128) offs_zero]

/-- At the first point result 3 is left at the correction buffer. -/
theorem out_A_7 (c : Dev nD) (i : grid0.Coords) (arg1 : Memref sig .tc .vmem S400x10000 .f32) (harg1 : arg1.IsWhole)
    (arg2 : Memref sig .tc .vmem S10000x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S400x128 .f32) (harg5 : arg5.IsWhole)
    (arg6 : Memref sig .tc .vmem S400x128 .fp8e4m3) (harg6 : arg6.IsWhole) (arg7 : Memref sig .tc .vmem S400x10000 .fp8e4m3) (harg7 : arg7.IsWhole)
    (arg8 : Memref sig .tc .vmem S8x128 .f32) (harg8 : arg8.IsWhole) (hc : cond0_0 i)
    (x0 : Vec F S400x10000 .f32) (x1 : Vec F S10000x128 .f32) (x2 : Vec F S128x128 .f32) (x3 : Vec F S128x128 .f32) :
    out0_A_7 c i arg1 harg1 arg2 harg2 arg3 harg3 arg4 harg4 arg5 harg5 arg6 harg6 arg7 harg7 arg8 harg8 hc x0 x1 x2 x3 = k0_pay6 x0 x1 (k0_pay5 (F := F)) := by
  unfold out0_A_7
  rw [View.read_writes_eq_canon _ _ _ (cover0_A_7 c i arg1 harg1 arg2 harg2 arg3 harg3 arg4 harg4 arg5 harg5 arg6 harg6 arg7 harg7 arg8 harg8 hc x0 x1 x2 x3)]
  unfold kernelRun0_A
  dsimp only
  sl_unfold_words
  rw [View.canon_cons_unit_zero (S := S8x128) offs_zero, View.readCov_unit_zero (S := S8x128) _ offs_zero]
  simp only [View.readAt_eq_ld, harg1.read_unread, harg2.read_unread, harg3.read_unread, harg4.read_unread, harg8.read_unread,
    View.ld_unit_zero (S := S400x10000) offs_zero, View.ld_unit_zero (S := S10000x128) offs_zero,
    View.ld_unit_zero (S := S128x128) offs_zero, View.ld_unit_zero (S := S8x128) offs_zero]

/-- At a later point result 0 is left at the partial sum of the first two terms. -/
theorem out_B_4 (c : Dev nD) (i : grid0.Coords) (arg1 : Memref sig .tc .vmem S400x10000 .f32) (harg1 : arg1.IsWhole)
    (arg2 : Memref sig .tc .vmem S10000x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S400x128 .f32) (harg5 : arg5.IsWhole)
    (arg6 : Memref sig .tc .vmem S400x128 .fp8e4m3) (harg6 : arg6.IsWhole) (arg7 : Memref sig .tc .vmem S400x10000 .fp8e4m3) (harg7 : arg7.IsWhole)
    (arg8 : Memref sig .tc .vmem S8x128 .f32) (harg8 : arg8.IsWhole) (hc : ¬cond0_0 i)
    (x0 : Vec F S400x10000 .f32) (x1 : Vec F S10000x128 .f32) (x2 : Vec F S128x128 .f32) (x3 : Vec F S128x128 .f32) (xo : Vec F S8x128 .f32) :
    out0_B_4 c i arg1 harg1 arg2 harg2 arg3 harg3 arg4 harg4 arg5 harg5 arg6 harg6 arg7 harg7 arg8 harg8 hc x0 x1 x2 x3 xo = k0_pay2 x0 x1 (xRows i x1) x2 x3 := by
  unfold out0_B_4
  rw [View.read_writes_eq_canon _ _ _ (cover0_B_4 c i arg1 harg1 arg2 harg2 arg3 harg3 arg4 harg4 arg5 harg5 arg6 harg6 arg7 harg7 arg8 harg8 hc x0 x1 x2 x3 xo)]
  unfold kernelRun0_B
  dsimp only
  rw [View.canon_unit_zero (S := S400x128) offs_zero]
  simp only [View.readAt_eq_ld, harg1.read_unread, harg2.read_unread, harg3.read_unread, harg4.read_unread, harg8.read_unread,
    View.ld_unit_zero (S := S400x10000) offs_zero, View.ld_unit_zero (S := S10000x128) offs_zero,
    View.ld_unit_zero (S := S128x128) offs_zero, View.ld_unit_zero (S := S8x128) offs_zero]

/-- At a later point result 1 is left at the narrowed block of the first product. -/
theorem out_B_5 (c : Dev nD) (i : grid0.Coords) (arg1 : Memref sig .tc .vmem S400x10000 .f32) (harg1 : arg1.IsWhole)
    (arg2 : Memref sig .tc .vmem S10000x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S400x128 .f32) (harg5 : arg5.IsWhole)
    (arg6 : Memref sig .tc .vmem S400x128 .fp8e4m3) (harg6 : arg6.IsWhole) (arg7 : Memref sig .tc .vmem S400x10000 .fp8e4m3) (harg7 : arg7.IsWhole)
    (arg8 : Memref sig .tc .vmem S8x128 .f32) (harg8 : arg8.IsWhole) (hc : ¬cond0_0 i)
    (x0 : Vec F S400x10000 .f32) (x1 : Vec F S10000x128 .f32) (x2 : Vec F S128x128 .f32) (x3 : Vec F S128x128 .f32) (xo : Vec F S8x128 .f32) :
    out0_B_5 c i arg1 harg1 arg2 harg2 arg3 harg3 arg4 harg4 arg5 harg5 arg6 harg6 arg7 harg7 arg8 harg8 hc x0 x1 x2 x3 xo = k0_pay3 x0 x1 := by
  unfold out0_B_5
  rw [View.read_writes_eq_canon _ _ _ (cover0_B_5 c i arg1 harg1 arg2 harg2 arg3 harg3 arg4 harg4 arg5 harg5 arg6 harg6 arg7 harg7 arg8 harg8 hc x0 x1 x2 x3 xo)]
  unfold kernelRun0_B
  dsimp only
  rw [View.canon_unit_zero (S := S400x128) offs_zero]
  simp only [View.readAt_eq_ld, harg1.read_unread, harg2.read_unread, harg3.read_unread, harg4.read_unread, harg8.read_unread,
    View.ld_unit_zero (S := S400x10000) offs_zero, View.ld_unit_zero (S := S10000x128) offs_zero,
    View.ld_unit_zero (S := S128x128) offs_zero, View.ld_unit_zero (S := S8x128) offs_zero]

/-- At a later point result 2 is left at the narrowed block of the graph shift operator. -/
theorem out_B_6 (c : Dev nD) (i : grid0.Coords) (arg1 : Memref sig .tc .vmem S400x10000 .f32) (harg1 : arg1.IsWhole)
    (arg2 : Memref sig .tc .vmem S10000x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S400x128 .f32) (harg5 : arg5.IsWhole)
    (arg6 : Memref sig .tc .vmem S400x128 .fp8e4m3) (harg6 : arg6.IsWhole) (arg7 : Memref sig .tc .vmem S400x10000 .fp8e4m3) (harg7 : arg7.IsWhole)
    (arg8 : Memref sig .tc .vmem S8x128 .f32) (harg8 : arg8.IsWhole) (hc : ¬cond0_0 i)
    (x0 : Vec F S400x10000 .f32) (x1 : Vec F S10000x128 .f32) (x2 : Vec F S128x128 .f32) (x3 : Vec F S128x128 .f32) (xo : Vec F S8x128 .f32) :
    out0_B_6 c i arg1 harg1 arg2 harg2 arg3 harg3 arg4 harg4 arg5 harg5 arg6 harg6 arg7 harg7 arg8 harg8 hc x0 x1 x2 x3 xo = k0_pay4 x0 := by
  unfold out0_B_6
  rw [View.read_writes_eq_canon _ _ _ (cover0_B_6 c i arg1 harg1 arg2 harg2 arg3 harg3 arg4 harg4 arg5 harg5 arg6 harg6 arg7 harg7 arg8 harg8 hc x0 x1 x2 x3 xo)]
  unfold kernelRun0_B
  dsimp only
  rw [View.canon_unit_zero (S := S400x10000) offs_zero]
  simp only [View.readAt_eq_ld, harg1.read_unread, harg2.read_unread, harg3.read_unread, harg4.read_unread, harg8.read_unread,
    View.ld_unit_zero (S := S400x10000) offs_zero, View.ld_unit_zero (S := S10000x128) offs_zero,
    View.ld_unit_zero (S := S128x128) offs_zero, View.ld_unit_zero (S := S8x128) offs_zero]

/-- At a later point result 3 is left at the correction buffer. -/
theorem out_B_7 (c : Dev nD) (i : grid0.Coords) (arg1 : Memref sig .tc .vmem S400x10000 .f32) (harg1 : arg1.IsWhole)
    (arg2 : Memref sig .tc .vmem S10000x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S400x128 .f32) (harg5 : arg5.IsWhole)
    (arg6 : Memref sig .tc .vmem S400x128 .fp8e4m3) (harg6 : arg6.IsWhole) (arg7 : Memref sig .tc .vmem S400x10000 .fp8e4m3) (harg7 : arg7.IsWhole)
    (arg8 : Memref sig .tc .vmem S8x128 .f32) (harg8 : arg8.IsWhole) (hc : ¬cond0_0 i)
    (x0 : Vec F S400x10000 .f32) (x1 : Vec F S10000x128 .f32) (x2 : Vec F S128x128 .f32) (x3 : Vec F S128x128 .f32) (xo : Vec F S8x128 .f32) :
    out0_B_7 c i arg1 harg1 arg2 harg2 arg3 harg3 arg4 harg4 arg5 harg5 arg6 harg6 arg7 harg7 arg8 harg8 hc x0 x1 x2 x3 xo = k0_pay6 x0 x1 xo := by
  unfold out0_B_7
  rw [View.read_writes_eq_canon _ _ _ (cover0_B_7 c i arg1 harg1 arg2 harg2 arg3 harg3 arg4 harg4 arg5 harg5 arg6 harg6 arg7 harg7 arg8 harg8 hc x0 x1 x2 x3 xo)]
  unfold kernelRun0_B
  dsimp only
  rw [View.canon_unit_zero (S := S8x128) offs_zero]
  simp only [View.readAt_eq_ld, harg1.read_unread, harg2.read_unread, harg3.read_unread, harg4.read_unread, harg8.read_unread,
    View.ld_unit_zero (S := S400x10000) offs_zero, View.ld_unit_zero (S := S10000x128) offs_zero,
    View.ld_unit_zero (S := S128x128) offs_zero, View.ld_unit_zero (S := S8x128) offs_zero]

end Cert.KernelIdeal.HopOne

end
-- ==== Proof.Conv.lean ====
/-
  The graph convolution over the extended reals, element by element: one hop along the graph shift operator, a
  multiplication by a weight matrix, the sum of the three polynomial terms, the parametric rectifier. And the fact that a
  hop of finite features along a finite operator is finite.
-/
module

public import Idealize.ShloMosaic.Lib.Pointwise

@[expose] public section

noncomputable section

namespace Cert.Conv

open Idealize.ShloMosaic

/-- One value per node and feature channel. -/
abbrev Feat := Fin 10000 → Fin 128 → EReal

/-- The entries of a node-by-channel array, by node and channel. -/
abbrev entries (x : FVec Ideal ⟨2, ![10000, 128]⟩ .f32) : Feat := fun r c => x (ix2 r c)

/-- One hop: node `r` receives the sum of the other nodes' values, weighted by its row of the operator. -/
@[irreducible] def hop (g : FVec Ideal ⟨2, ![10000, 10000]⟩ .f32) (y : Feat) : Feat := fun r c => ∑ k : Fin 10000, g (ix2 r k) * y k c

/-- The values multiplied by a weight matrix. -/
@[irreducible] def weigh (y : Feat) (w : FVec Ideal ⟨2, ![128, 128]⟩ .f32) : Feat := fun r c => ∑ k : Fin 128, y r k * w (ix2 k c)

/-- A hop, written out. -/
theorem hop_apply (g : FVec Ideal ⟨2, ![10000, 10000]⟩ .f32) (y : Feat) (r : Fin 10000) (c : Fin 128) :
    hop g y r c = ∑ k : Fin 10000, g (ix2 r k) * y k c := by unfold hop; rfl

/-- A multiplication by a weight matrix, written out. -/
theorem weigh_apply (y : Feat) (w : FVec Ideal ⟨2, ![128, 128]⟩ .f32) (r : Fin 10000) (c : Fin 128) :
    weigh y w r c = ∑ k : Fin 128, y r k * w (ix2 k c) := by unfold weigh; rfl

/-- The first two terms of the polynomial: the features and their first hop, each multiplied by its weight matrix. -/
def part (x : Feat) (g : FVec Ideal ⟨2, ![10000, 10000]⟩ .f32) (w0 w1 : FVec Ideal ⟨2, ![128, 128]⟩ .f32) : Feat :=
  fun r c => weigh x w0 r c + weigh (hop g x) w1 r c

/-- The parametric rectifier with slope `a` below zero. -/
def rectify (a y : EReal) : EReal := if 0 ≤ y then y else a * y

/-- The convolution: all three terms, rectified. -/
def conv (x : Feat) (g : FVec Ideal ⟨2, ![10000, 10000]⟩ .f32) (w0 w1 w2 : FVec Ideal ⟨2, ![128, 128]⟩ .f32) (a : EReal) : Feat :=
  fun r c => rectify a (part x g w0 w1 r c + weigh (hop g (hop g x)) w2 r c)

/-- Neither infinity. -/
def Finite (y : EReal) : Prop := y ≠ ⊤ ∧ y ≠ ⊥

/-- A finite value less itself is zero. -/
theorem Finite.sub_self {y : EReal} (h : Finite y) : y - y = 0 := EReal.sub_self h.1 h.2

/-- A value whose absolute value is below infinity is finite. -/
theorem Finite.of_abs_lt {y : EReal} (h : max y (-y) < ⊤) : Finite y := by
  refine ⟨fun e => ?_, fun e => ?_⟩ <;> subst e <;> simp at h

/-- Zero is finite. -/
theorem Finite.zero : Finite 0 := ⟨EReal.zero_ne_top, EReal.zero_ne_bot⟩

/-- A sum of two finite values is finite. -/
theorem Finite.add {y z : EReal} (hy : Finite y) (hz : Finite z) : Finite (y + z) := by
  rw [← EReal.coe_toReal hy.1 hy.2, ← EReal.coe_toReal hz.1 hz.2, ← EReal.coe_add]
  exact ⟨EReal.coe_ne_top _, EReal.coe_ne_bot _⟩

/-- A product of two finite values is finite. -/
theorem Finite.mul {y z : EReal} (hy : Finite y) (hz : Finite z) : Finite (y * z) := by
  rw [← EReal.coe_toReal hy.1 hy.2, ← EReal.coe_toReal hz.1 hz.2, ← EReal.coe_mul]
  exact ⟨EReal.coe_ne_top _, EReal.coe_ne_bot _⟩

/-- A sum of finitely many finite values is finite. -/
theorem Finite.sum {ι : Type} (s : Finset ι) (f : ι → EReal) (h : ∀ i, Finite (f i)) : Finite (∑ i ∈ s, f i) :=
  Finset.sum_induction f Finite (fun _ _ => Finite.add) Finite.zero fun i _ => h i

/-- A hop of finite values along a finite operator is finite. -/
theorem hop_finite (g : FVec Ideal ⟨2, ![10000, 10000]⟩ .f32) (y : Feat) (hg : ∀ i, Finite (g i)) (hy : ∀ r c, Finite (y r c))
    (r : Fin 10000) (c : Fin 128) : Finite (hop g y r c) := by
  rw [hop_apply]
  exact Finite.sum _ _ fun k => (hg _).mul (hy k c)

end Cert.Conv

end
-- ==== Proof.HopOneArrays.lean ====
/-
  The first pallas call, its four result arrays when it ends, over the extended reals: the sum of the first two polynomial
  terms, the first hop, a copy of the graph shift operator, and the correction row, which is zero as long as the first hop
  is finite because over the extended reals narrowing a value to eight bits does not change it.
-/
module

public import proofs.«01_k».proof.Proof.HopOneBlock
public import proofs.«01_k».proof.Proof.Conv

@[expose] public section

noncomputable section

open Idealize.ShloMosaic Idealize.ShloMosaic.TcCoe Idealize.SL.Sem
open Idealize.ShloMosaic.Pipeline (Dat)

namespace Cert.KernelIdeal.HopOne

open Cert.KernelIdeal Cert.KernelIdeal.Gen Cert.Conv

variable (V : (c : Dev nD) → (b : Ref sig .tc) → Buf (Elt Ideal) ((c : Thread nD τ).loc b))

/-! ## The payloads at an index -/

/-- The first hop's block. -/
theorem hop_block (g : Vec Ideal S400x10000 .f32) (x : Vec Ideal S10000x128 .f32) (r : Fin 400) (c : Fin 128) :
    k0_pay1 g x (ix2 r c) = ∑ k : Fin 10000, g (ix2 r k) * x (ix2 k c) := by
  pointwise [k0_pay1]

/-- The block of the first two terms. -/
theorem part_block (g : Vec Ideal S400x10000 .f32) (x : Vec Ideal S10000x128 .f32) (xb : Vec Ideal S400x128 .f32)
    (w0 w1 : Vec Ideal S128x128 .f32) (r : Fin 400) (c : Fin 128) :
    k0_pay2 g x xb w0 w1 (ix2 r c)
      = (∑ k : Fin 128, xb (ix2 r k) * w0 (ix2 k c)) + ∑ k : Fin 128, k0_pay1 g x (ix2 r k) * w1 (ix2 k c) := by
  pointwise [k0_pay2]

/-- The narrowed first hop is the first hop. -/
theorem hop_narrowed (g : Vec Ideal S400x10000 .f32) (x : Vec Ideal S10000x128 .f32) (r : Fin 400) (c : Fin 128) :
    k0_pay3 g x (ix2 r c) = k0_pay1 g x (ix2 r c) := by
  pointwise [k0_pay3]

/-- The narrowed operator block is the operator block. -/
theorem op_narrowed (g : Vec Ideal S400x10000 .f32) (r : Fin 400) (k : Fin 10000) : k0_pay4 g (ix2 r k) = g (ix2 r k) := by
  pointwise [k0_pay4]

/-- The zeroed correction. -/
theorem corr_zeroed (r : Fin 8) (c : Fin 128) : k0_pay5 (F := Ideal) (ix2 r c) = 0 := by
  pointwise [k0_pay5]

/-- The correction after a point: what it was, and the column sums of the first hop less its narrowed copy. -/
theorem corr_block (g : Vec Ideal S400x10000 .f32) (x : Vec Ideal S10000x128 .f32) (acc : Vec Ideal S8x128 .f32) (r : Fin 8) (c : Fin 128) :
    k0_pay6 g x acc (ix2 r c) = acc (ix2 r c) + ∑ k : Fin 400, (k0_pay1 g x (ix2 k c) - k0_pay1 g x (ix2 k c)) := by
  pointwise [k0_pay6, k0_pay3]

/-! ## The windows' blocks at an index -/

/-- The features, as the region finds them. -/
abbrev feats (c : Dev nD) : FVec Ideal ⟨2, ![10000, 128]⟩ .f32 := V c main_arg0
/-- The graph shift operator. -/
abbrev oper (c : Dev nD) : FVec Ideal ⟨2, ![10000, 10000]⟩ .f32 := V c main_arg1
/-- The first weight matrix. -/
abbrev weight0 (c : Dev nD) : FVec Ideal ⟨2, ![128, 128]⟩ .f32 := V c main_arg2
/-- The second weight matrix. -/
abbrev weight1 (c : Dev nD) : FVec Ideal ⟨2, ![128, 128]⟩ .f32 := V c main_arg3

/-- Row `r` of point `t`'s block of 400 rows, as a row of the whole array. -/
def row (t : Fin cfg0.N) (r : Fin 400) : Fin 10000 :=
  ⟨t.val * 400 + r.val, by have h : t.val < 25 := lt_of_lt_of_eq t.isLt (show cfg0.N = 25 from N_0); have := r.isLt; omega⟩

/-- The block indices of every window: the row-blocked ones at the point's number, the whole ones at zero. -/
theorem index_eq : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = 0)
    ∧ (k0_off1 (grid0.coords t) 0 = t.val * 400 ∧ k0_off1 (grid0.coords t) 1 = 0) := by
  decide +kernel

/-- Point `t` is given rows `400 t` to `400 t + 399` of the operator. -/
theorem oper_block (c : Dev nD) (t : Fin cfg0.N) (r : Fin 400) (k : Fin 10000) :
    (iblk0 V c 0 t : Vec Ideal S400x10000 .f32) (ix2 r k) = oper V c (ix2 (row t r) k) := by
  have h := (index_eq t).1
  unfold iblk0
  rw [View.read_apply]
  show V c main_arg1 _ = V c main_arg1 _
  congr 1
  funext a
  apply Fin.ext
  match a with
  | ⟨0, _⟩ => show win0_0.index t 0 * 400 + 1 * r.val = t.val * 400 + r.val; rw [h.1]; omega
  | ⟨1, _⟩ => show win0_0.index t 1 * 10000 + 1 * k.val = k.val; rw [h.2]; omega

/-- Every point is given the whole features. -/
theorem feats_block (c : Dev nD) (t : Fin cfg0.N) (r : Fin 10000) (k : Fin 128) :
    (iblk0 V c 1 t : Vec Ideal S10000x128 .f32) (ix2 r k) = feats V c (ix2 r k) := by
  have h := (index_eq t).2.1
  unfold iblk0
  rw [View.read_apply]
  show V c main_arg0 _ = V c main_arg0 _
  congr 1
  funext a
  apply Fin.ext
  match a with
  | ⟨0, _⟩ => show win0_1.index t 0 * 10000 + 1 * r.val = r.val; rw [h.1]; omega
  | ⟨1, _⟩ => show win0_1.index t 1 * 128 + 1 * k.val = k.val; rw [h.2]; omega

/-- Every point is given the whole first weight matrix. -/
theorem weight0_block (c : Dev nD) (t : Fin cfg0.N) (r k : Fin 128) :
    (iblk0 V c 2 t : Vec Ideal S128x128 .f32) (ix2 r k) = weight0 V c (ix2 r k) := by
  have h := (index_eq t).2.2.1
  unfold iblk0
  rw [View.read_apply]
  show V c main_arg2 _ = V c main_arg2 _
  congr 1
  funext a
  apply Fin.ext
  match a with
  | ⟨0, _⟩ => show win0_2.index t 0 * 128 + 1 * r.val = r.val; rw [h.1]; omega
  | ⟨1, _⟩ => show win0_2.index t 1 * 128 + 1 * k.val = k.val; rw [h.2]; omega

/-- Every point is given the whole second weight matrix. -/
theorem weight1_block (c : Dev nD) (t : Fin cfg0.N) (r k : Fin 128) :
    (iblk0 V c 3 t : Vec Ideal S128x128 .f32) (ix2 r k) = weight1 V c (ix2 r k) := by
  have h := (index_eq t).2.2.2.1
  unfold iblk0
  rw [View.read_apply]
  show V c main_arg3 _ = V c main_arg3 _
  congr 1
  funext a
  apply Fin.ext
  match a with
  | ⟨0, _⟩ => show win0_3.index t 0 * 128 + 1 * r.val = r.val; rw [h.1]; omega
  | ⟨1, _⟩ => show win0_3.index t 1 * 128 + 1 * k.val = k.val; rw [h.2]; omega

/-- The rows of the features that the body reads at point `t` are the point's own. -/
theorem xRows_block (c : Dev nD) (t : Fin cfg0.N) (r : Fin 400) (k : Fin 128) :
    xRows (grid0.coords t) (iblk0 V c 1 t) (ix2 r k) = feats V c (ix2 (row t r) k) := by
  have h := (index_eq t).2.2.2.2.2.2.2.2
  rw [← feats_block V c t (row t r) k]
  show (iblk0 V c 1 t : Vec Ideal S10000x128 .f32) _ = (iblk0 V c 1 t : Vec Ideal S10000x128 .f32) _
  congr 1
  funext a
  apply Fin.ext
  match a with
  | ⟨0, _⟩ => show k0_off1 (grid0.coords t) 0 + 1 * r.val = t.val * 400 + r.val; rw [h.1]; omega
  | ⟨1, _⟩ => show k0_off1 (grid0.coords t) 1 + 1 * k.val = k.val; rw [h.2]; omega

/-- The first hop's block at point `t` is the point's rows of the first hop. -/
theorem hop_rows (c : Dev nD) (t : Fin cfg0.N) (r : Fin 400) (k : Fin 128) :
    k0_pay1 (iblk0 V c 0 t) (iblk0 V c 1 t) (ix2 r k) = hop (oper V c) (entries (feats V c)) (row t r) k := by
  rw [hop_block, hop_apply]
  exact Finset.sum_congr rfl fun j _ => by rw [oper_block, feats_block]

/-! ## What the staging buffers hold after each point -/

/-- Result 0's buffer after a point. -/
theorem outs_part (c : Dev nD) (t : Fin cfg0.N) : (outsAt0 V c t.val t.isLt).1
    = k0_pay2 (iblk0 V c 0 t) (iblk0 V c 1 t) (xRows (grid0.coords t) (iblk0 V c 1 t)) (iblk0 V c 2 t) (iblk0 V c 3 t) := by
  by_cases h : t.val % 25 = 0
  · rw [outsAt0_A V c t h]; dsimp only; rw [out_A_4]
  · rw [outsAt0_B V c t h]; dsimp only; rw [out_B_4]

/-- Result 1's buffer after a point. -/
theorem outs_hop (c : Dev nD) (t : Fin cfg0.N) : (outsAt0 V c t.val t.isLt).2.1 = k0_pay3 (iblk0 V c 0 t) (iblk0 V c 1 t) := by
  by_cases h : t.val % 25 = 0
  · rw [outsAt0_A V c t h]; dsimp only; rw [out_A_5]
  · rw [outsAt0_B V c t h]; dsimp only; rw [out_B_5]

/-- Result 2's buffer after a point. -/
theorem outs_op (c : Dev nD) (t : Fin cfg0.N) : (outsAt0 V c t.val t.isLt).2.2.1 = k0_pay4 (iblk0 V c 0 t) := by
  by_cases h : t.val % 25 = 0
  · rw [outsAt0_A V c t h]; dsimp only; rw [out_A_6]
  · rw [outsAt0_B V c t h]; dsimp only; rw [out_B_6]

/-- What a point adds to the correction is zero where the first hop is finite. -/
theorem corr_step (c : Dev nD) (hfin : ∀ r k, Finite (hop (oper V c) (entries (feats V c)) r k)) (t : Fin cfg0.N)
    (acc : Vec Ideal S8x128 .f32) (r : Fin 8) (k : Fin 128) :
    k0_pay6 (iblk0 V c 0 t) (iblk0 V c 1 t) acc (ix2 r k) = acc (ix2 r k) := by
  rw [corr_block, Finset.sum_eq_zero fun j _ => by rw [hop_rows]; exact (hfin _ _).sub_self, add_zero]

/-- The correction is zero after every point, by induction on the points. -/
theorem outs_corr (c : Dev nD) (hfin : ∀ r k, Finite (hop (oper V c) (entries (feats V c)) r k)) :
    ∀ (n : ℕ) (h : n < cfg0.N) (r : Fin 8) (k : Fin 128), (outsAt0 V c n h).2.2.2 (ix2 r k) = 0
  | 0, h, r, k => by
    rw [outsAt0_A V c ⟨0, h⟩ rfl]
    dsimp only
    rw [out_A_7, corr_step V c hfin, corr_zeroed]
  | n + 1, h, r, k => by
    have hN : cfg0.N = 25 := N_0
    have hB : ¬(⟨n + 1, h⟩ : Fin cfg0.N).val % 25 = 0 := by dsimp only; omega
    rw [outsAt0_B V c ⟨n + 1, h⟩ hB]
    dsimp only
    rw [out_B_7, corr_step V c hfin]
    exact outs_corr c hfin n _ r k

/-! ## The result arrays when the region ends -/

/-- Every row belongs to the block of one point. -/
theorem row_point (n : ℕ) (h : n < 10000) : n / 400 < cfg0.N := by
  rw [show cfg0.N = 25 from N_0]; omega

/-- Result 0 as it should end: the sum of the first two terms. -/
def partArr (c : Dev nD) : Buf (Elt Ideal) ((c : Thread nD τ).loc main_v0_0) :=
  fun (i : S10000x128.Idx) => (part (entries (feats V c)) (oper V c) (weight0 V c) (weight1 V c) (i 0) (i 1) : EReal)

/-- The same, at a row and a column. -/
theorem partArr_ix2 (c : Dev nD) (r : Fin 10000) (k : Fin 128) : partArr V c (ix2 r k : S10000x128.Idx) = part (entries (feats V c)) (oper V c) (weight0 V c) (weight1 V c) r k := rfl

/-- What point `t` writes back to result 0 is the point's rows of the sum of the first two terms. -/
theorem flushed_4 (c : Dev nD) (t : Fin cfg0.N) :
    (dat0 V c).flushed 4 t = (win0_4.blk t).view.read (Elt Ideal) (partArr V c) := by
  have h := (index_eq t).2.2.2.2.1
  show (cfg0.win 4).cut (grid0.coords t) ((dat0 V c).after 4 t) = _
  rw [after0_4, outs_part]
  funext j
  obtain ⟨r, k, rfl⟩ : ∃ (r : Fin 400) (k : Fin 128), j = ix2 r k := ⟨j 0, j 1, eq_ix2 j⟩
  rw [View.read_apply]
  have e : (win0_4.blk t).view.emb (ix2 r k) = (ix2 (row t r) k : S10000x128.Idx) := by
    funext a
    apply Fin.ext
    match a with
    | ⟨0, _⟩ => show win0_4.index t 0 * 400 + 1 * r.val = t.val * 400 + r.val; rw [h.1]; omega
    | ⟨1, _⟩ => show win0_4.index t 1 * 128 + 1 * k.val = k.val; rw [h.2]; omega
  rw [e]
  show k0_pay2 (iblk0 V c 0 t) (iblk0 V c 1 t) (xRows (grid0.coords t) (iblk0 V c 1 t)) (iblk0 V c 2 t) (iblk0 V c 3 t) (ix2 r k)
    = partArr V c (ix2 (row t r) k : S10000x128.Idx)
  rw [partArr_ix2, part_block]
  unfold part
  rw [weigh_apply, weigh_apply]
  exact congrArg₂ (· + ·) (Finset.sum_congr rfl fun j _ => by rw [xRows_block, weight0_block])
    (Finset.sum_congr rfl fun j _ => by rw [hop_rows, weight1_block])

/-- An index of result 0 is in point `t`'s block when its row is one of the point's 400. -/
theorem mem_blk_4 (t : Fin cfg0.N) (i : S10000x128.Idx) :
    i ∈ ((cfg0.win 4).blk t).view.set ↔ t.val * 400 ≤ (i 0 : Nat) ∧ (i 0 : Nat) < t.val * 400 + 400 := by
  have h := (index_eq t).2.2.2.2.1
  show i ∈ ((View.whole main_v0_0).slice (win0_4.rect t)).set ↔ _
  rw [View.set_slice_whole, Rect.mem_set_unit]
  have h1 : (i 1 : Nat) < 128 := (i 1).isLt
  refine ⟨fun g => ?_, fun g a => ?_⟩
  · have : win0_4.index t 0 * 400 ≤ (i 0 : Nat) ∧ (i 0 : Nat) < win0_4.index t 0 * 400 + 400 := g 0
    rw [h.1] at this; exact this
  · match a with
    | ⟨0, _⟩ => show win0_4.index t 0 * 400 ≤ (i 0 : Nat) ∧ (i 0 : Nat) < win0_4.index t 0 * 400 + 400
                rw [h.1]; exact g
    | ⟨1, _⟩ => show win0_4.index t 1 * 128 ≤ (i 1 : Nat) ∧ (i 1 : Nat) < win0_4.index t 1 * 128 + 128
                rw [h.2]; omega

/-- Result 0 ends holding the sum of the first two terms. -/
theorem final_4 (c : Dev nD) : (dat0 V c).arrAt 4 cfg0.N = partArr V c :=
  (dat0 V c).arrAt_eq_of_cover 4 (partArr V c) (fun t _ => flushed_4 V c t) fun i => by
    have hi : ((i : S10000x128.Idx) 0 : Nat) < 10000 := ((i : S10000x128.Idx) 0).isLt
    refine ⟨⟨((i : S10000x128.Idx) 0 : Nat) / 400, row_point _ hi⟩, flush0_4 _, (mem_blk_4 _ i).mpr ?_⟩
    dsimp only
    omega

/-- Result 1 as it should end: the first hop. -/
def hopArr (c : Dev nD) : Buf (Elt Ideal) ((c : Thread nD τ).loc main_v0_1) :=
  fun (i : S10000x128.Idx) => (hop (oper V c) (entries (feats V c)) (i 0) (i 1) : EReal)

/-- The same, at a row and a column. -/
theorem hopArr_ix2 (c : Dev nD) (r : Fin 10000) (k : Fin 128) : hopArr V c (ix2 r k : S10000x128.Idx) = hop (oper V c) (entries (feats V c)) r k := rfl

/-- What point `t` writes back to result 1 is the point's rows of the first hop. -/
theorem flushed_5 (c : Dev nD) (t : Fin cfg0.N) :
    (dat0 V c).flushed 5 t = (win0_5.blk t).view.read (Elt Ideal) (hopArr V c) := by
  have h := (index_eq t).2.2.2.2.2.1
  show (cfg0.win 5).cut (grid0.coords t) ((dat0 V c).after 5 t) = _
  rw [after0_5, outs_hop]
  funext j
  obtain ⟨r, k, rfl⟩ : ∃ (r : Fin 400) (k : Fin 128), j = ix2 r k := ⟨j 0, j 1, eq_ix2 j⟩
  rw [View.read_apply]
  have e : (win0_5.blk t).view.emb (ix2 r k) = (ix2 (row t r) k : S10000x128.Idx) := by
    funext a
    apply Fin.ext
    match a with
    | ⟨0, _⟩ => show win0_5.index t 0 * 400 + 1 * r.val = t.val * 400 + r.val; rw [h.1]; omega
    | ⟨1, _⟩ => show win0_5.index t 1 * 128 + 1 * k.val = k.val; rw [h.2]; omega
  rw [e]
  show k0_pay3 (iblk0 V c 0 t) (iblk0 V c 1 t) (ix2 r k) = hopArr V c (ix2 (row t r) k : S10000x128.Idx)
  exact (hop_narrowed _ _ _ _).trans (hop_rows V c t r k)

/-- An index of result 1 is in point `t`'s block when its row is one of the point's 400. -/
theorem mem_blk_5 (t : Fin cfg0.N) (i : S10000x128.Idx) :
    i ∈ ((cfg0.win 5).blk t).view.set ↔ t.val * 400 ≤ (i 0 : Nat) ∧ (i 0 : Nat) < t.val * 400 + 400 := by
  have h := (index_eq t).2.2.2.2.2.1
  show i ∈ ((View.whole main_v0_1).slice (win0_5.rect t)).set ↔ _
  rw [View.set_slice_whole, Rect.mem_set_unit]
  have h1 : (i 1 : Nat) < 128 := (i 1).isLt
  refine ⟨fun g => ?_, fun g a => ?_⟩
  · have : win0_5.index t 0 * 400 ≤ (i 0 : Nat) ∧ (i 0 : Nat) < win0_5.index t 0 * 400 + 400 := g 0
    rw [h.1] at this; exact this
  · match a with
    | ⟨0, _⟩ => show win0_5.index t 0 * 400 ≤ (i 0 : Nat) ∧ (i 0 : Nat) < win0_5.index t 0 * 400 + 400
                rw [h.1]; exact g
    | ⟨1, _⟩ => show win0_5.index t 1 * 128 ≤ (i 1 : Nat) ∧ (i 1 : Nat) < win0_5.index t 1 * 128 + 128
                rw [h.2]; omega

/-- Result 1 ends holding the first hop. -/
theorem final_5 (c : Dev nD) : (dat0 V c).arrAt 5 cfg0.N = hopArr V c :=
  (dat0 V c).arrAt_eq_of_cover 5 (hopArr V c) (fun t _ => flushed_5 V c t) fun i => by
    have hi : ((i : S10000x128.Idx) 0 : Nat) < 10000 := ((i : S10000x128.Idx) 0).isLt
    refine ⟨⟨((i : S10000x128.Idx) 0 : Nat) / 400, row_point _ hi⟩, flush0_5 _, (mem_blk_5 _ i).mpr ?_⟩
    dsimp only
    omega

/-- Result 2 as it should end: the graph shift operator. -/
def operArr (c : Dev nD) : Buf (Elt Ideal) ((c : Thread nD τ).loc main_v0_2) :=
  fun (i : S10000x10000.Idx) => (oper V c (ix2 (i 0) (i 1)) : EReal)

/-- The same, at a row and a column. -/
theorem operArr_ix2 (c : Dev nD) (r : Fin 10000) (k : Fin 10000) : operArr V c (ix2 r k : S10000x10000.Idx) = oper V c (ix2 r k) := rfl

/-- What point `t` writes back to result 2 is the point's rows of the graph shift operator. -/
theorem flushed_6 (c : Dev nD) (t : Fin cfg0.N) :
    (dat0 V c).flushed 6 t = (win0_6.blk t).view.read (Elt Ideal) (operArr V c) := by
  have h := (index_eq t).2.2.2.2.2.2.1
  show (cfg0.win 6).cut (grid0.coords t) ((dat0 V c).after 6 t) = _
  rw [after0_6, outs_op]
  funext j
  obtain ⟨r, k, rfl⟩ : ∃ (r : Fin 400) (k : Fin 10000), j = ix2 r k := ⟨j 0, j 1, eq_ix2 j⟩
  rw [View.read_apply]
  have e : (win0_6.blk t).view.emb (ix2 r k) = (ix2 (row t r) k : S10000x10000.Idx) := by
    funext a
    apply Fin.ext
    match a with
    | ⟨0, _⟩ => show win0_6.index t 0 * 400 + 1 * r.val = t.val * 400 + r.val; rw [h.1]; omega
    | ⟨1, _⟩ => show win0_6.index t 1 * 10000 + 1 * k.val = k.val; rw [h.2]; omega
  rw [e]
  show k0_pay4 (iblk0 V c 0 t) (ix2 r k) = operArr V c (ix2 (row t r) k : S10000x10000.Idx)
  rw [operArr_ix2, op_narrowed, oper_block]

/-- An index of result 2 is in point `t`'s block when its row is one of the point's 400. -/
theorem mem_blk_6 (t : Fin cfg0.N) (i : S10000x10000.Idx) :
    i ∈ ((cfg0.win 6).blk t).view.set ↔ t.val * 400 ≤ (i 0 : Nat) ∧ (i 0 : Nat) < t.val * 400 + 400 := by
  have h := (index_eq t).2.2.2.2.2.2.1
  show i ∈ ((View.whole main_v0_2).slice (win0_6.rect t)).set ↔ _
  rw [View.set_slice_whole, Rect.mem_set_unit]
  have h1 : (i 1 : Nat) < 10000 := (i 1).isLt
  refine ⟨fun g => ?_, fun g a => ?_⟩
  · have : win0_6.index t 0 * 400 ≤ (i 0 : Nat) ∧ (i 0 : Nat) < win0_6.index t 0 * 400 + 400 := g 0
    rw [h.1] at this; exact this
  · match a with
    | ⟨0, _⟩ => show win0_6.index t 0 * 400 ≤ (i 0 : Nat) ∧ (i 0 : Nat) < win0_6.index t 0 * 400 + 400
                rw [h.1]; exact g
    | ⟨1, _⟩ => show win0_6.index t 1 * win0_6.size 1 ≤ (i 1 : Nat) ∧ (i 1 : Nat) < win0_6.index t 1 * win0_6.size 1 + win0_6.xsize (grid0.coords t) 1
                rw [h.2, show win0_6.xsize (grid0.coords t) 1 = 10000 from rfl]; omega

/-- Result 2 ends holding the graph shift operator. -/
theorem final_6 (c : Dev nD) : (dat0 V c).arrAt 6 cfg0.N = operArr V c :=
  (dat0 V c).arrAt_eq_of_cover 6 (operArr V c) (fun t _ => flushed_6 V c t) fun i => by
    have hi : ((i : S10000x10000.Idx) 0 : Nat) < 10000 := ((i : S10000x10000.Idx) 0).isLt
    refine ⟨⟨((i : S10000x10000.Idx) 0 : Nat) / 400, row_point _ hi⟩, flush0_6 _, (mem_blk_6 _ i).mpr ?_⟩
    dsimp only
    omega

/-- Result 3 as it should end: zero. -/
def corrArr (c : Dev nD) : Buf (Elt Ideal) ((c : Thread nD τ).loc main_v0_3) := fun (_ : S8x128.Idx) => (0 : EReal)

/-- What the last point writes back to result 3 is zero where the first hop is finite. -/
theorem flushed_7 (c : Dev nD) (hfin : ∀ r k, Finite (hop (oper V c) (entries (feats V c)) r k)) (t : Fin cfg0.N) :
    (dat0 V c).flushed 7 t = (win0_7.blk t).view.read (Elt Ideal) (corrArr c) := by
  show (cfg0.win 7).cut (grid0.coords t) ((dat0 V c).after 7 t) = _
  rw [after0_7]
  funext j
  obtain ⟨r, k, rfl⟩ : ∃ (r : Fin 8) (k : Fin 128), j = ix2 r k := ⟨j 0, j 1, eq_ix2 j⟩
  exact outs_corr V c hfin t.val t.isLt r k

/-- Every index of result 3 is in every point's block, which is the whole array. -/
theorem mem_blk_7 (t : Fin cfg0.N) (i : S8x128.Idx) : i ∈ ((cfg0.win 7).blk t).view.set := by
  have h := (index_eq t).2.2.2.2.2.2.2.1
  show i ∈ ((View.whole main_v0_3).slice (win0_7.rect t)).set
  rw [View.set_slice_whole, Rect.mem_set_unit]
  have h0 : (i 0 : Nat) < 8 := (i 0).isLt
  have h1 : (i 1 : Nat) < 128 := (i 1).isLt
  intro a
  match a with
  | ⟨0, _⟩ => show win0_7.index t 0 * 8 ≤ (i 0 : Nat) ∧ (i 0 : Nat) < win0_7.index t 0 * 8 + 8
              rw [h.1]; omega
  | ⟨1, _⟩ => show win0_7.index t 1 * 128 ≤ (i 1 : Nat) ∧ (i 1 : Nat) < win0_7.index t 1 * 128 + 128
              rw [h.2]; omega

/-- Result 3 ends at zero where the first hop is finite. -/
theorem final_7 (c : Dev nD) (hfin : ∀ r k, Finite (hop (oper V c) (entries (feats V c)) r k)) :
    (dat0 V c).arrAt 7 cfg0.N = corrArr c :=
  (dat0 V c).arrAt_eq_of_cover 7 (corrArr c) (fun t _ => flushed_7 V c hfin t) fun i =>
    ⟨⟨24, by rw [show cfg0.N = 25 from N_0]; decide⟩, (flush0_7 _).mpr rfl, mem_blk_7 _ i⟩

end Cert.KernelIdeal.HopOne

end
-- ==== Proof.HopTwo.lean ====
/-
  The second pallas call over the extended reals: what one grid point computes, and what the result array holds when the
  call ends, in terms of the arrays the call is given: the polynomial's first two terms, half the correction row times the
  third weight matrix, and the operator times the first hop times the third weight matrix, added up and rectified.
-/
module

public import proofs.«01_k».proof.Proof.Gen.KernelIdeal.Frame
public import proofs.«01_k».proof.Proof.Conv
public import Idealize.ShloMosaic.Lib.Pipeline.Value

@[expose] public section

noncomputable section

open Idealize.ShloMosaic Idealize.ShloMosaic.TcCoe Idealize.SL.Sem
open Idealize.ShloMosaic.Pipeline (Dat)

namespace Cert.KernelIdeal.HopTwo

open Cert.KernelIdeal Cert.KernelIdeal.Gen Cert.Conv

variable (V : (c : Dev nD) → (b : Ref sig .tc) → Buf (Elt Ideal) ((c : Thread nD τ).loc b))

/-- The offsets of a whole rank-2 block are zero. -/
theorem offs_zero : (![0, 0] : Fin 2 → Nat) = fun _ => 0 := funext fun a => by fin_cases a <;> rfl

/-! ## One grid point -/

/-- The correction's weight in the sum: one half, as the kernel's constant denotes it. -/
abbrev half : EReal := Ideal.ofBits .f32 0x3F000000#32

/-- A point's block at an index: the three terms and the correction, rectified. -/
theorem out_block (x0 : Vec Ideal S1000x10000 .fp8e4m3) (x1 : Vec Ideal S10000x128 .fp8e4m3) (x2 : Vec Ideal S1000x128 .f32)
    (x3 : Vec Ideal S8x128 .f32) (x4 : Vec Ideal S128x128 .f32) (x5 : Vec Ideal S1x1 .f32) (r : Fin 1000) (c : Fin 128) :
    out1_6 x0 x1 x2 x3 x4 x5 (ix2 r c) = rectify (x5 (ix2 0 0))
      (x2 (ix2 r c) + half * (∑ k : Fin 128, x3 (ix2 0 k) * x4 (ix2 k c))
        + ∑ k : Fin 128, (∑ l : Fin 10000, x0 (ix2 r l) * x1 (ix2 l k)) * x4 (ix2 k c)) := by
  unfold out1_6
  rw [View.canon_unit_zero (S := S1000x128) offs_zero, View.ld_unit_zero (S := S1000x10000) offs_zero,
    View.ld_unit_zero (S := S10000x128) offs_zero, View.ld_unit_zero (S := S1000x128) offs_zero,
    View.ld_unit_zero (S := S128x128) offs_zero, View.ld_unit_zero (S := S1x1) offs_zero]
  unfold rectify
  pointwise [k1_pay1]

/-! ## The windows' blocks at an index -/

/-- The operator's copy, as the region finds it. -/
abbrev oper8 (c : Dev nD) : FVec Ideal ⟨2, ![10000, 10000]⟩ .fp8e4m3 := V c main_v0_2
/-- The first hop's copy. -/
abbrev hop8 (c : Dev nD) : FVec Ideal ⟨2, ![10000, 128]⟩ .fp8e4m3 := V c main_v0_1
/-- The first two terms. -/
abbrev terms (c : Dev nD) : FVec Ideal ⟨2, ![10000, 128]⟩ .f32 := V c main_v0_0
/-- The correction. -/
abbrev corr (c : Dev nD) : FVec Ideal ⟨2, ![8, 128]⟩ .f32 := V c main_v0_3
/-- The third weight matrix. -/
abbrev weight2 (c : Dev nD) : FVec Ideal ⟨2, ![128, 128]⟩ .f32 := V c main_arg4
/-- The rectifier's slope. -/
abbrev slope (c : Dev nD) : FVec Ideal ⟨2, ![1, 1]⟩ .f32 := V c main_v1

/-- Row `r` of point `t`'s block of 1000 rows, as a row of the whole array. -/
def row (t : Fin cfg1.N) (r : Fin 1000) : Fin 10000 :=
  ⟨t.val * 1000 + r.val, by have h : t.val < 10 := lt_of_lt_of_eq t.isLt (show cfg1.N = 10 from N_1); have := r.isLt; omega⟩

/-- The block indices of every window: the row-blocked ones at the point's number, the whole ones at zero. -/
theorem index_eq : ∀ t : Fin grid1.N,
    (win1_0.index t 0 = t.val ∧ win1_0.index t 1 = 0) ∧ (win1_1.index t 0 = 0 ∧ win1_1.index t 1 = 0)
    ∧ (win1_2.index t 0 = t.val ∧ win1_2.index t 1 = 0) ∧ (win1_3.index t 0 = 0 ∧ win1_3.index t 1 = 0)
    ∧ (win1_4.index t 0 = 0 ∧ win1_4.index t 1 = 0) ∧ (win1_5.index t 0 = 0 ∧ win1_5.index t 1 = 0)
    ∧ (win1_6.index t 0 = t.val ∧ win1_6.index t 1 = 0) := by
  decide +kernel

/-- Point `t` is given rows `1000 t` to `1000 t + 999` of the operator's copy. -/
theorem oper8_block (c : Dev nD) (t : Fin cfg1.N) (r : Fin 1000) (k : Fin 10000) :
    (iblk1 V c 0 t : Vec Ideal S1000x10000 .fp8e4m3) (ix2 r k) = oper8 V c (ix2 (row t r) k) := by
  have h := (index_eq t).1
  unfold iblk1
  rw [View.read_apply]
  show V c main_v0_2 _ = V c main_v0_2 _
  congr 1
  funext a
  apply Fin.ext
  match a with
  | ⟨0, _⟩ => show win1_0.index t 0 * 1000 + 1 * r.val = t.val * 1000 + r.val; rw [h.1]; omega
  | ⟨1, _⟩ => show win1_0.index t 1 * 10000 + 1 * k.val = k.val; rw [h.2]; omega

/-- Every point is given the whole first hop. -/
theorem hop8_block (c : Dev nD) (t : Fin cfg1.N) (r : Fin 10000) (k : Fin 128) :
    (iblk1 V c 1 t : Vec Ideal S10000x128 .fp8e4m3) (ix2 r k) = hop8 V c (ix2 (r) k) := by
  have h := (index_eq t).2.1
  unfold iblk1
  rw [View.read_apply]
  show V c main_v0_1 _ = V c main_v0_1 _
  congr 1
  funext a
  apply Fin.ext
  match a with
  | ⟨0, _⟩ => show win1_1.index t 0 * 10000 + 1 * r.val = r.val; rw [h.1]; omega
  | ⟨1, _⟩ => show win1_1.index t 1 * 128 + 1 * k.val = k.val; rw [h.2]; omega

/-- Point `t` is given its own 1000 rows of the first two terms. -/
theorem terms_block (c : Dev nD) (t : Fin cfg1.N) (r : Fin 1000) (k : Fin 128) :
    (iblk1 V c 2 t : Vec Ideal S1000x128 .f32) (ix2 r k) = terms V c (ix2 (row t r) k) := by
  have h := (index_eq t).2.2.1
  unfold iblk1
  rw [View.read_apply]
  show V c main_v0_0 _ = V c main_v0_0 _
  congr 1
  funext a
  apply Fin.ext
  match a with
  | ⟨0, _⟩ => show win1_2.index t 0 * 1000 + 1 * r.val = t.val * 1000 + r.val; rw [h.1]; omega
  | ⟨1, _⟩ => show win1_2.index t 1 * 128 + 1 * k.val = k.val; rw [h.2]; omega

/-- Every point is given the whole correction. -/
theorem corr_block (c : Dev nD) (t : Fin cfg1.N) (r : Fin 8) (k : Fin 128) :
    (iblk1 V c 3 t : Vec Ideal S8x128 .f32) (ix2 r k) = corr V c (ix2 (r) k) := by
  have h := (index_eq t).2.2.2.1
  unfold iblk1
  rw [View.read_apply]
  show V c main_v0_3 _ = V c main_v0_3 _
  congr 1
  funext a
  apply Fin.ext
  match a with
  | ⟨0, _⟩ => show win1_3.index t 0 * 8 + 1 * r.val = r.val; rw [h.1]; omega
  | ⟨1, _⟩ => show win1_3.index t 1 * 128 + 1 * k.val = k.val; rw [h.2]; omega

/-- Every point is given the whole third weight matrix. -/
theorem weight2_block (c : Dev nD) (t : Fin cfg1.N) (r : Fin 128) (k : Fin 128) :
    (iblk1 V c 4 t : Vec Ideal S128x128 .f32) (ix2 r k) = weight2 V c (ix2 (r) k) := by
  have h := (index_eq t).2.2.2.2.1
  unfold iblk1
  rw [View.read_apply]
  show V c main_arg4 _ = V c main_arg4 _
  congr 1
  funext a
  apply Fin.ext
  match a with
  | ⟨0, _⟩ => show win1_4.index t 0 * 128 + 1 * r.val = r.val; rw [h.1]; omega
  | ⟨1, _⟩ => show win1_4.index t 1 * 128 + 1 * k.val = k.val; rw [h.2]; omega

/-- Every point is given the slope. -/
theorem slope_block (c : Dev nD) (t : Fin cfg1.N) (r : Fin 1) (k : Fin 1) :
    (iblk1 V c 5 t : Vec Ideal S1x1 .f32) (ix2 r k) = slope V c (ix2 (r) k) := by
  have h := (index_eq t).2.2.2.2.2.1
  unfold iblk1
  rw [View.read_apply]
  show V c main_v1 _ = V c main_v1 _
  congr 1
  funext a
  apply Fin.ext
  match a with
  | ⟨0, _⟩ => show win1_5.index t 0 * 1 + 1 * r.val = r.val; rw [h.1]; omega
  | ⟨1, _⟩ => show win1_5.index t 1 * 1 + 1 * k.val = k.val; rw [h.2]; omega

/-! ## The result array when the region ends -/

/-- The sum before the rectifier, from the arrays the region finds. -/
@[irreducible] def total (c : Dev nD) : Feat := fun r k =>
  terms V c (ix2 r k) + half * (∑ j : Fin 128, corr V c (ix2 0 j) * weight2 V c (ix2 j k))
    + ∑ j : Fin 128, (∑ l : Fin 10000, oper8 V c (ix2 r l) * hop8 V c (ix2 l j)) * weight2 V c (ix2 j k)

/-- The sum before the rectifier, written out. -/
theorem total_apply (c : Dev nD) (r : Fin 10000) (k : Fin 128) : total V c r k
    = terms V c (ix2 r k) + half * (∑ j : Fin 128, corr V c (ix2 0 j) * weight2 V c (ix2 j k))
      + ∑ j : Fin 128, (∑ l : Fin 10000, oper8 V c (ix2 r l) * hop8 V c (ix2 l j)) * weight2 V c (ix2 j k) := by
  unfold total; rfl

/-- The result as it should end. -/
def outArr (c : Dev nD) : Buf (Elt Ideal) ((c : Thread nD τ).loc main_v2) :=
  fun (i : S10000x128.Idx) => (rectify (slope V c (ix2 0 0)) (total V c (i 0) (i 1)) : EReal)

/-- The same, at a row and a column. -/
theorem outArr_ix2 (c : Dev nD) (r : Fin 10000) (k : Fin 128) :
    outArr V c (ix2 r k : S10000x128.Idx) = rectify (slope V c (ix2 0 0)) (total V c r k) := rfl

/-- What point `t` writes back is the point's rows of the result. -/
theorem flushed_6 (c : Dev nD) (t : Fin cfg1.N) :
    (dat1 V c).flushed 6 t = (win1_6.blk t).view.read (Elt Ideal) (outArr V c) := by
  have h := (index_eq t).2.2.2.2.2.2
  show (cfg1.win 6).cut (grid1.coords t) ((dat1 V c).after 6 t) = _
  rw [after1_6]
  funext j
  obtain ⟨r, k, rfl⟩ : ∃ (r : Fin 1000) (k : Fin 128), j = ix2 r k := ⟨j 0, j 1, eq_ix2 j⟩
  rw [View.read_apply]
  have e : (win1_6.blk t).view.emb (ix2 r k) = (ix2 (row t r) k : S10000x128.Idx) := by
    funext a
    apply Fin.ext
    match a with
    | ⟨0, _⟩ => show win1_6.index t 0 * 1000 + 1 * r.val = t.val * 1000 + r.val; rw [h.1]; omega
    | ⟨1, _⟩ => show win1_6.index t 1 * 128 + 1 * k.val = k.val; rw [h.2]; omega
  rw [e]
  show out1_6 (iblk1 V c 0 t) (iblk1 V c 1 t) (iblk1 V c 2 t) (iblk1 V c 3 t) (iblk1 V c 4 t) (iblk1 V c 5 t) (ix2 r k)
    = outArr V c (ix2 (row t r) k : S10000x128.Idx)
  rw [outArr_ix2, out_block, total_apply, terms_block, slope_block]
  refine congrArg (rectify _) (congrArg₂ (· + ·) (congrArg (terms V c (ix2 (row t r) k) + half * ·) ?_) ?_)
  · exact Finset.sum_congr rfl fun j _ => by rw [corr_block, weight2_block]
  · refine Finset.sum_congr rfl fun j _ => ?_
    rw [weight2_block]
    exact congrArg (· * weight2 V c (ix2 j k)) (Finset.sum_congr rfl fun l _ => by rw [oper8_block, hop8_block])

/-- An index of the result is in point `t`'s block when its row is one of the point's 1000. -/
theorem mem_blk_6 (t : Fin cfg1.N) (i : S10000x128.Idx) :
    i ∈ ((cfg1.win 6).blk t).view.set ↔ t.val * 1000 ≤ (i 0 : Nat) ∧ (i 0 : Nat) < t.val * 1000 + 1000 := by
  have h := (index_eq t).2.2.2.2.2.2
  have hs : win1_6.xsize (grid1.coords t) 0 = 1000 := rfl
  show i ∈ ((View.whole main_v2).slice (win1_6.rect t)).set ↔ _
  rw [View.set_slice_whole, Rect.mem_set_unit]
  have h1 : (i 1 : Nat) < 128 := (i 1).isLt
  refine ⟨fun g => ?_, fun g a => ?_⟩
  · have : win1_6.index t 0 * win1_6.size 0 ≤ (i 0 : Nat) ∧ (i 0 : Nat) < win1_6.index t 0 * win1_6.size 0 + win1_6.xsize (grid1.coords t) 0 := g 0
    rw [h.1, hs] at this; exact this
  · match a with
    | ⟨0, _⟩ => show win1_6.index t 0 * win1_6.size 0 ≤ (i 0 : Nat) ∧ (i 0 : Nat) < win1_6.index t 0 * win1_6.size 0 + win1_6.xsize (grid1.coords t) 0
                rw [h.1, hs]; exact g
    | ⟨1, _⟩ => show win1_6.index t 1 * 128 ≤ (i 1 : Nat) ∧ (i 1 : Nat) < win1_6.index t 1 * 128 + 128
                rw [h.2]; omega

/-- The result array ends holding the rectified sum. -/
theorem final_6 (c : Dev nD) : (dat1 V c).arrAt 6 cfg1.N = outArr V c :=
  (dat1 V c).arrAt_eq_of_cover 6 (outArr V c) (fun t _ => flushed_6 V c t) fun i => by
    have hi : ((i : S10000x128.Idx) 0 : Nat) < 10000 := ((i : S10000x128.Idx) 0).isLt
    refine ⟨⟨((i : S10000x128.Idx) 0 : Nat) / 1000, by rw [show cfg1.N = 10 from N_1]; omega⟩, flush1_6 _, (mem_blk_6 _ i).mpr ?_⟩
    dsimp only
    omega

end Cert.KernelIdeal.HopTwo

end
-- ==== Proof.KernelRun.lean ====
/-
  The kernel's run over the extended reals: it ends with its arguments unchanged and its result array at what the second
  pallas call leaves; and, where the first hop of the features is finite, that array is the graph convolution.
-/
module

public import proofs.«01_k».proof.Proof.HopOneArrays
public import proofs.«01_k».proof.Proof.HopTwo

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Conv HopOne HopTwo

/-- The resources the run is proved over. -/
local notation "𝕄" => MT nD τ sig Unit (Elt Ideal) ℕ (UR sig nD τ) ℕ

variable (m : (ℓ : Loc nD τ sig) → Buf (Elt Ideal) ℓ) (ρ : Dev nD → PrngReg)

/-! ## What the second call is given -/

/-- The first two terms, as the first call left them. -/
theorem terms_eq (c : Dev nD) : terms (V2 m ρ) c = partArr (V0 m ρ) c :=
  ((W2_of m ρ c main_v0_0 (by decide)).trans (W1_arr m ρ c 4)).trans (final_4 (V0 m ρ) c)

/-- The first hop, as the first call left it. -/
theorem hop8_eq (c : Dev nD) : hop8 (V2 m ρ) c = hopArr (V0 m ρ) c :=
  ((W2_of m ρ c main_v0_1 (by decide)).trans (W1_arr m ρ c 5)).trans (final_5 (V0 m ρ) c)

/-- The operator's copy, as the first call left it. -/
theorem oper8_eq (c : Dev nD) : oper8 (V2 m ρ) c = operArr (V0 m ρ) c :=
  ((W2_of m ρ c main_v0_2 (by decide)).trans (W1_arr m ρ c 6)).trans (HopOne.final_6 (V0 m ρ) c)

/-- The correction, as the first call left it: zero where the first hop is finite. -/
theorem corr_eq (c : Dev nD)
    (hfin : ∀ r k, Finite (hop (oper (V0 m ρ) c) (entries (feats (V0 m ρ) c)) r k)) :
    corr (V2 m ρ) c = corrArr c :=
  ((W2_of m ρ c main_v0_3 (by decide)).trans (W1_arr m ρ c 7)).trans (final_7 (V0 m ρ) c hfin)

/-- The third weight matrix, as launched. -/
theorem weight2_eq (c : Dev nD) : weight2 (V2 m ρ) c = m ((c : Thread nD τ).loc main_arg4) :=
  W2_args m ρ c main_arg4 (by decide)

/-- The slope: the one entry of the last argument. -/
theorem slope_eq (c : Dev nD) :
    slope (V2 m ρ) c (ix2 0 0) = (m ((c : Thread nD τ).loc main_arg5) : FVec Ideal ⟨1, ![1]⟩ .f32) (ix1 0) := by
  have h : slope (V2 m ρ) c = shapeCast S1x1 (m ((c : Thread nD τ).loc main_arg5) : FVec Ideal ⟨1, ![1]⟩ .f32) shapeCasts_S1_S1x1 := by
    show StableHlo.after hostOps1 (W1 m ρ c) (Proc.devRef .tc main_v1) = _
    simp only [hostOps1, StableHlo.after_cons, StableHlo.after_nil]
    rw [StableHlo.reshape_result, W1_of m ρ c main_arg5 (by decide)]
    rfl
  rw [h]
  pointwise []

/-! ## The result array -/

/-- The convolution of the launched arguments, as the result's array. -/
def convArr (c : Dev nD) : Buf (Elt Ideal) ((c : Thread nD τ).loc main_v2) :=
  fun (i : S10000x128.Idx) => (conv (entries (m ((c : Thread nD τ).loc main_arg0))) (m ((c : Thread nD τ).loc main_arg1))
    (m ((c : Thread nD τ).loc main_arg2)) (m ((c : Thread nD τ).loc main_arg3)) (m ((c : Thread nD τ).loc main_arg4))
    ((m ((c : Thread nD τ).loc main_arg5) : FVec Ideal ⟨1, ![1]⟩ .f32) (ix1 0)) (i 0) (i 1) : EReal)

/-- The same, at a node and a channel. -/
theorem convArr_ix2 (c : Dev nD) (r : Fin 10000) (k : Fin 128) :
    convArr m c (ix2 r k : S10000x128.Idx) = conv (entries (m ((c : Thread nD τ).loc main_arg0))) (m ((c : Thread nD τ).loc main_arg1))
    (m ((c : Thread nD τ).loc main_arg2)) (m ((c : Thread nD τ).loc main_arg3)) (m ((c : Thread nD τ).loc main_arg4))
    ((m ((c : Thread nD τ).loc main_arg5) : FVec Ideal ⟨1, ![1]⟩ .f32) (ix1 0)) r k := rfl

/-- Half of a zero correction adds nothing, whatever the weights. -/
theorem no_correction (w : Fin 128 → EReal) : half * (∑ j : Fin 128, 0 * w j) = 0 := by
  rw [Finset.sum_eq_zero fun j _ => zero_mul (w j), mul_zero]

/-- Where the first hop is finite, the second call's sum before the rectifier is the convolution's. -/
theorem total_eq (c : Dev nD)
    (hfin : ∀ r k, Finite (hop (oper (V0 m ρ) c) (entries (feats (V0 m ρ) c)) r k)) (r : Fin 10000) (k : Fin 128) :
    total (V2 m ρ) c r k
      = part (entries (feats (V0 m ρ) c)) (oper (V0 m ρ) c) (weight0 (V0 m ρ) c) (weight1 (V0 m ρ) c) r k
        + weigh (hop (oper (V0 m ρ) c) (hop (oper (V0 m ρ) c) (entries (feats (V0 m ρ) c)))) (weight2 (V2 m ρ) c) r k := by
  rw [total_apply, terms_eq, hop8_eq, oper8_eq, corr_eq m ρ c hfin, weigh_apply]
  refine Ideal.add_congr ((Ideal.add_congr (partArr_ix2 (V0 m ρ) c r k)
    (no_correction fun j => weight2 (V2 m ρ) c (ix2 j k))).trans (add_zero _)) (Finset.sum_congr rfl fun j _ => ?_)
  refine Ideal.mul_congr ?_ rfl
  rw [hop_apply]
  rfl

/-- Where the first hop is finite, the array the second call leaves is the convolution. -/
theorem outArr_eq (c : Dev nD)
    (hfin : ∀ r k, Finite (hop (oper (V0 m ρ) c) (entries (feats (V0 m ρ) c)) r k)) :
    outArr (V2 m ρ) c = convArr m c := by
  funext i
  obtain ⟨r, k, rfl⟩ : ∃ (r : Fin 10000) (k : Fin 128), i = (ix2 r k : S10000x128.Idx) := ⟨i 0, i 1, eq_ix2 i⟩
  rw [outArr_ix2, convArr_ix2, total_eq m ρ c hfin, slope_eq, weight2_eq]
  rfl

/-! ## The run -/

-- the launch theorem's implicit arguments are found by unifying its conclusion with this one, which takes unfolding
-- plain definitions in a metavariable's type
set_option backward.isDefEq.respectTransparency.types false in
/-- From any memory with zero counters the kernel runs to its end: the result array is what the second call leaves, and the
    arguments are as launched. -/
theorem run : θ_run defs (onTc (τ := τ) (main (F := Ideal))) ⟨m, fun _ => 0, ρ⟩ (fun r => ∀ c : Dev nD,
      r.2.mem ((c.tc : Thread nD τ).loc main_v2) = outArr (V2 m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨((h c _ (mem_uc main_v2 (by decide))).trans (W3_arr m ρ c 6)).trans (HopTwo.final_6 (V2 m ρ) c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Run

end
-- ==== Proof.RefValue.lean ====
/-
  The reference over the extended reals: the array its run leaves, entry by entry, is the convolution of the arguments.
-/
module

public import proofs.«01_k».proof.Proof.Gen.ReferenceIdeal.Run
public import proofs.«01_k».proof.Proof.Conv

@[expose] public section

noncomputable section

namespace Cert.ReferenceIdeal.Polynomial

open Idealize.ShloMosaic Idealize.ShloMosaic.TcCoe Idealize.SL.Sem Cert.ReferenceIdeal Cert.ReferenceIdeal.Gen Cert.Conv

/-- The reference's product of the operator and a node-by-channel array is one hop. -/
theorem product_hop (g : FVec Ideal S10000x10000 .f32) (y : FVec Ideal S10000x128 .f32) (r : Fin 10000) (k : Fin 128) :
    Host.dotGeneral dot_S10000x10000_S10000x128_S10000x128_1_0_0_1_n_n none g y (ix2 r k) = hop g (entries y) r k := by
  rw [hop_apply]
  pointwise []

/-- The reference's product with a weight matrix. -/
theorem product_weigh (y : FVec Ideal S10000x128 .f32) (w : FVec Ideal S128x128 .f32) (r : Fin 10000) (k : Fin 128) :
    Host.dotGeneral dot_S10000x128_S128x128_S10000x128_1_0_0_1_n_n none y w (ix2 r k) = weigh (entries y) w r k := by
  rw [weigh_apply]
  pointwise []

/-- One hop, as the reference's array. -/
abbrev hopped (x : FVec Ideal S10000x128 .f32) (g : FVec Ideal S10000x10000 .f32) : FVec Ideal S10000x128 .f32 :=
  Host.dotGeneral dot_S10000x10000_S10000x128_S10000x128_1_0_0_1_n_n none g x

/-- The entries of that array are the hop's. -/
theorem entries_hopped (x : FVec Ideal S10000x128 .f32) (g : FVec Ideal S10000x10000 .f32) :
    entries (hopped x g) = hop g (entries x) := by
  funext r k; exact product_hop g x r k

/-- The reference's sum of three terms, as its array. -/
abbrev summed (x : FVec Ideal S10000x128 .f32) (g : FVec Ideal S10000x10000 .f32) (w0 w1 w2 : FVec Ideal S128x128 .f32) :
    FVec Ideal S10000x128 .f32 :=
  addf (addf (Host.dotGeneral dot_S10000x128_S128x128_S10000x128_1_0_0_1_n_n none x w0)
      (Host.dotGeneral dot_S10000x128_S128x128_S10000x128_1_0_0_1_n_n none (hopped x g) w1))
    (Host.dotGeneral dot_S10000x128_S128x128_S10000x128_1_0_0_1_n_n none (hopped (hopped x g) g) w2)

/-- The sum at a node and a channel. -/
theorem summed_apply (x : FVec Ideal S10000x128 .f32) (g : FVec Ideal S10000x10000 .f32) (w0 w1 w2 : FVec Ideal S128x128 .f32)
    (r : Fin 10000) (k : Fin 128) :
    summed x g w0 w1 w2 (ix2 r k)
      = part (entries x) g w0 w1 r k + weigh (hop g (hop g (entries x))) w2 r k := by
  have e0 := product_weigh x w0 r k
  have e1 := product_weigh (hopped x g) w1 r k
  have e2 := product_weigh (hopped (hopped x g) g) w2 r k
  rw [entries_hopped] at e1 e2
  rw [entries_hopped] at e2
  exact congrArg₂ (· + ·) (congrArg₂ (· + ·) e0 e1) e2

/-- The rectifier as the reference spells it, at a node and a channel. -/
theorem rectified (y : FVec Ideal S10000x128 .f32) (a : FVec Ideal S1 .f32) (r : Fin 10000) (k : Fin 128) :
    select (cmpf .oge y (broadcastInDim S10000x128 ![] bcast_S_S10000x128 (constant S_ .f32 0x00000000#32))) y
      (mulf (broadcastInDim S10000x128 ![0, 1] bcast_S1x1_S10000x128_0_1 (broadcastInDim S1x1 ![1] bcast_S1_S1x1_1 a)) y) (ix2 r k)
      = rectify (a (ix1 0)) (y (ix2 r k)) := by
  unfold rectify
  pointwise []

end Cert.ReferenceIdeal.Polynomial

end
-- ==== Proof.Pre.lean ====
/-
  The precondition read back: where it holds, every entry of the features and of the graph shift operator is finite.
-/
module

public import proofs.«01_k».proof.Defs
public import proofs.«01_k».proof.Proof.Gen.Pre_finite_graph
public import proofs.«01_k».proof.Proof.Conv
public import Idealize.ShloMosaic.Lib.ReduceAll

@[expose] public section

noncomputable section

namespace Cert.FiniteGraph

open Idealize.ShloMosaic Idealize.SL.Sem Cert.Conv

/-- A scalar has one index. -/
instance scalar_index : Subsingleton Cert.Pre_finite_graph.S_.Idx := ⟨fun a b => funext fun d => d.elim0⟩

/-- The word the comparison is made with denotes infinity. -/
theorem bound : Ideal.ofBits FTy.f32 0x7F800000#32 = ⊤ := by
  simp [Ideal.ofBits, Ideal.ieee]

/-- An entry whose absolute value compares below infinity is finite. -/
theorem finite_of_compare {s : Shape} (x : FVec Ideal s .f32) (b : Cert.Pre_finite_graph.S_.BroadcastsInDim s ![]) (i : s.Idx)
    (h : cmpf .olt (Host.absf x) (broadcastInDim s ![] b (constant (F := Ideal) Cert.Pre_finite_graph.S_ .f32 0x7F800000#32)) i = 1#1) :
    Finite (x i) := by
  refine Finite.of_abs_lt ?_
  rw [← bound]
  have e : Ideal.cmp .olt (max (x i) (-(x i))) (Ideal.ofBits FTy.f32 0x7F800000#32) = 1#1 := h
  exact (Ideal.cmp_olt_eq_one _ _).1 e

/-- Where the precondition holds of six arrays, the first two are finite throughout. -/
theorem finite_of_holds (x : FVec Ideal ⟨2, ![10000, 128]⟩ .f32) (g : FVec Ideal ⟨2, ![10000, 10000]⟩ .f32)
    (w0 w1 w2 : FVec Ideal ⟨2, ![128, 128]⟩ .f32) (a : FVec Ideal ⟨1, ![1]⟩ .f32)
    (h : Cert.Pre_finite_graph.fn (F := Ideal) x g w0 w1 w2 a = fun _ => 1#1) : (∀ i, Finite (x i)) ∧ ∀ i, Finite (g i) := by
  have h0 := congrFun h (fun d => d.elim0)
  unfold Cert.Pre_finite_graph.fn at h0
  obtain ⟨hx, hg⟩ := IntOp.andi_eq_one.1 h0
  exact ⟨fun i => finite_of_compare x _ i (Host.reduce_andi_all _ _ _ _ _ hx i),
    fun i => finite_of_compare g _ i (Host.reduce_andi_all _ _ _ _ _ hg i)⟩

/-- Where the kernel's precondition holds of a memory, its features and its operator are finite throughout. -/
theorem finite_of_pre (m : (ℓ : Loc Cert.KernelIdeal.nD Cert.KernelIdeal.τ Cert.KernelIdeal.sig) → Buf (Elt Ideal) ℓ)
    (h : Cert.Pre_KernelIdeal_finite_graph m) (c : Dev Cert.KernelIdeal.nD) :
    (∀ i, Finite ((m ((c.tc : Thread Cert.KernelIdeal.nD Cert.KernelIdeal.τ).loc Cert.KernelIdeal.main_arg0) : FVec Ideal ⟨2, ![10000, 128]⟩ .f32) i))
      ∧ ∀ i, Finite ((m ((c.tc : Thread Cert.KernelIdeal.nD Cert.KernelIdeal.τ).loc Cert.KernelIdeal.main_arg1) : FVec Ideal ⟨2, ![10000, 10000]⟩ .f32) i) :=
  finite_of_holds _ _ _ _ _ _ (h c)

end Cert.FiniteGraph

end
-- ==== Proof.lean ====
/-
  The certificate's claims, assembled. The kernel and its idealization run to their end with arguments unchanged and every
  counter at zero; so does the reference; and over the extended reals, where the features and the graph shift operator hold
  no infinity, kernel and reference end with the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_graph
public import proofs.«01_k».proof.Proof.KernelRun
public import proofs.«01_k».proof.Proof.RefValue
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Conv

/-- The reference runs to its end with its arguments unchanged; it declares no semaphore, so every counter is zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) :=
  (θ_run _ _ _).mono (fun r h => ⟨fun c => (h c).2, sem_eq_zero_of_no_sems (by decide) r.2⟩) (Cert.ReferenceIdeal.Value.run m g)

/-- Where the precondition holds, kernel and reference, launched on equal arguments, both end at the graph convolution of
    those arguments, with the arguments unchanged. -/
theorem same_result : Cert.algebraic_KernelIdeal_ReferenceIdeal_pre_finite_graph := by
  intro m g m' g' hpre hargs
  refine ⟨fun c => Cert.KernelIdeal.Run.convArr m c, ?_, ?_⟩
  · refine (θ_run _ _ _).mono (fun r h c => ⟨(h c).1.trans ?_, (h c).2⟩) (Cert.KernelIdeal.Run.run m g)
    obtain ⟨hx, hg⟩ := Cert.FiniteGraph.finite_of_pre m hpre c
    exact Cert.KernelIdeal.Run.outArr_eq m g c fun r k => hop_finite _ _ hg (fun r k => hx (ix2 r k)) r k
  · refine (θ_run _ _ _).mono (fun r h c => ⟨(h c).1.trans ?_, (h c).2⟩) (Cert.ReferenceIdeal.Value.run m' g')
    obtain ⟨e0, e1, e2, e3, e4, e5⟩ := hargs c
    rw [e0, e1, e2, e3, e4, e5]
    funext i
    obtain ⟨r, k, rfl⟩ : ∃ (r : Fin 10000) (k : Fin 128), i = ix2 r k := ⟨i 0, i 1, eq_ix2 i⟩
    refine (Cert.ReferenceIdeal.Polynomial.rectified (Cert.ReferenceIdeal.Polynomial.summed _ _ _ _ _) _ r k).trans ?_
    refine Eq.trans ?_ (Cert.KernelIdeal.Run.convArr_ix2 m c r k).symm
    exact congrArg (rectify _) (Cert.ReferenceIdeal.Polynomial.summed_apply _ _ _ _ _ r k)

/-- Everything claimed. -/
theorem claim : Cert.Claim :=
  ⟨Cert.Kernel.Gen.facts, Cert.KernelIdeal.Gen.facts, Cert.ReferenceIdeal.Gen.facts, Cert.Pre_finite_graph.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, same_result⟩

end Cert.Proof

end
